-- ==== Defs.lean ====
def Pre_Kernel [hPre_positions_in_table : Cert.Pre_positions_in_table.Facts] (m : (ℓ : Loc Cert.Kernel.nD Cert.Kernel.τ Cert.Kernel.sig) → Buf (Elt Bits) ℓ) : Prop :=
  ∀ c : Dev Cert.Kernel.nD,
    (Cert.Pre_positions_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_positions_in_table : Cert.Pre_positions_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_table [hPre_positions_in_table : Cert.Pre_positions_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_positions_in_table : Cert.Pre_positions_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_positions_in_table : Cert.Pre_positions_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positions_in_table [hReferenceIdeal : Cert.ReferenceIdeal.Facts] [hPre_positions_in_table : Cert.Pre_positions_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_table : Cert.Pre_positions_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_positions_in_table : Cert.Pre_positions_in_table.Facts),
    quiescent_Kernel (hKernel := hKernel) (hPre_positions_in_table := hPre_positions_in_table)
    ∧ quiescent_KernelIdeal (hKernelIdeal := hKernelIdeal) (hPre_positions_in_table := hPre_positions_in_table)
    ∧ quiescent_ReferenceIdeal (hReferenceIdeal := hReferenceIdeal)
    ∧ quiescent_ReferenceIdeal_pre_positions_in_table (hReferenceIdeal := hReferenceIdeal) (hPre_positions_in_table := hPre_positions_in_table)
    ∧ preserves_Kernel_KernelIdeal
    ∧ algebraic_KernelIdeal_ReferenceIdeal (hKernelIdeal := hKernelIdeal) (hReferenceIdeal := hReferenceIdeal) (hPre_positions_in_table := hPre_positions_in_table)
-- ==== Pre_positions_in_table.lean ====
abbrev S8192x128 : Shape := ⟨2, ![8192, 128]⟩
abbrev S4x4096 : Shape := ⟨2, ![4, 4096]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : FVec F S8192x128 .f32) (main_arg1 : FVec F S8192x128 .f32) (main_arg2 : IVec S4x4096 32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg2 main_v0
  let main_c_0 : IVec S_ 32 := constantI S_ 32 8192#32
  let main_v2 : IVec S4x4096 32 := broadcastInDim S4x4096 ![] bcast_S_S4x4096 main_c_0
  let main_v3 : IVec S4x4096 1 := cmpi .slt main_arg2 main_v2
  let main_v4 : IVec S4x4096 1 := andi main_v1 main_v3
  let main_c_1 : IVec S_ 1 := constantI S_ 1 1#1
  let main_v5 : IVec S_ 1 := (fun x v => Host.reduce IntOp.andi x v reducesTo_S4x4096_S_d0_1 h_S_) main_v4 main_c_1
  main_v5
-- ==== Kernel.lean ====
abbrev S8192x128 : Shape := ⟨2, ![8192, 128]⟩
abbrev S4x4096 : Shape := ⟨2, ![4, 4096]⟩
abbrev S32x4x128 : Shape := ⟨3, ![32, 4, 128]⟩
abbrev S16384x128 : Shape := ⟨2, ![16384, 128]⟩
abbrev S4x128 : Shape := ⟨2, ![4, 128]⟩
abbrev S128x128 : Shape := ⟨2, ![128, 128]⟩
abbrev S_ : Shape := ⟨0, ![]⟩
abbrev S1x4x128 : Shape := ⟨3, ![1, 4, 128]⟩
abbrev S1x128 : Shape := ⟨2, ![1, 128]⟩
abbrev S128 : Shape := ⟨1, ![128]⟩
abbrev S4x4096x128 : Shape := ⟨3, ![4, 4096, 128]⟩

abbrev nBuf : Table → Nat
  | .hbm => 8
  | .local .scVector .vmem => 3
  | _ => 0

abbrev bufTy : (tb : Table) → Fin (nBuf tb) → BufTy
  | .hbm, ⟨0, _⟩ => ⟨S8192x128, .f32⟩
  | .hbm, ⟨1, _⟩ => ⟨S8192x128, .f32⟩
  | .hbm, ⟨2, _⟩ => ⟨S4x4096, .i32⟩
  | .hbm, ⟨3, _⟩ => ⟨S32x4x128, .i32⟩
  | .hbm, ⟨4, _⟩ => ⟨S16384x128, .f32⟩
  | .hbm, ⟨5, _⟩ => ⟨S16384x128, .f32⟩
  | .hbm, ⟨6, _⟩ => ⟨S4x4096x128, .f32⟩
  | .hbm, ⟨7, _⟩ => ⟨S4x4096x128, .f32⟩
  | .local .scVector .vmem, ⟨0, _⟩ => ⟨S4x128, .i32⟩
  | .local .scVector .vmem, ⟨1, _⟩ => ⟨S128x128, .f32⟩
  | .local .scVector .vmem, ⟨2, _⟩ => ⟨S128x128, .f32⟩
  | _, _ => ⟨S8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_66_r0 : BitVec 32 := 0#32
  let c0_i32_67_r0 : BitVec 32 := 0#32
  ![v1.toNat, 0, 0]
def k0_off2 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v12 : BitVec 32 := Scalar.addi v2 c0_i32_11
  let c0_i32_66_r1 : BitVec 32 := 0#32
  ![v12.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x128 : Shape := ⟨2, ![8192, 128]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S4x4096, .i32⟩
  | .hbm, ⟨3, _⟩ => ⟨S_, .i32⟩
  | .hbm, ⟨4, _⟩ => ⟨S4x4096, .i32⟩
  | .hbm, ⟨5, _⟩ => ⟨S4x4096, .i1⟩
  | .hbm, ⟨6, _⟩ => ⟨S_, .i32⟩
  | .hbm, ⟨7, _⟩ => ⟨S4x4096, .i32⟩
  | .hbm, ⟨8, _⟩ => ⟨S4x4096, .i32⟩
  | .hbm, ⟨9, _⟩ => ⟨S4x4096, .i32⟩
  | .hbm, ⟨10, _⟩ => ⟨S4x4096x1, .i32⟩
  | .hbm, ⟨11, _⟩ => ⟨S1, .i32⟩
  | .hbm, ⟨12, _⟩ => ⟨S_, .i32⟩
  | .hbm, ⟨13, _⟩ => ⟨S4x4096x1, .i32⟩
  | .hbm, ⟨14, _⟩ => ⟨S4x4096x1, .i1⟩
  | .hbm, ⟨15, _⟩ => ⟨S1x1x1, .i32⟩
  | .hbm, ⟨16, _⟩ => ⟨S4x4096x1, .i32⟩
  | .hbm, ⟨17, _⟩ => ⟨S4x4096x1, .i1⟩
  | .hbm, ⟨18, _⟩ => ⟨S4x4096x1, .i1⟩
  | .hbm, ⟨19, _⟩ => ⟨S_, .i1⟩
  | .hbm, ⟨20, _⟩ => ⟨S4x4096, .i1⟩
  | .hbm, ⟨21, _⟩ => ⟨S4x4096x128, .f32⟩
  | .hbm, ⟨22, _⟩ => ⟨S4x4096x128, .i1⟩
  | .hbm, ⟨23, _⟩ => ⟨S_, .f32⟩
  | .hbm, ⟨24, _⟩ => ⟨S4x4096x128, .f32⟩
  | .hbm, ⟨25, _⟩ => ⟨S4x4096x128, .f32⟩
  | .hbm, ⟨26, _⟩ => ⟨S_, .i32⟩
  | .hbm, ⟨27, _⟩ => ⟨S4x4096, .i32⟩
  | .hbm, ⟨28, _⟩ => ⟨S4x4096, .i1⟩
  | .hbm, ⟨29, _⟩ => ⟨S_, .i32⟩
  | .hbm, ⟨30, _⟩ => ⟨S4x4096, .i32⟩
  | .hbm, ⟨31, _⟩ => ⟨S4x4096, .i32⟩
  | .hbm, ⟨32, _⟩ => ⟨S4x4096, .i32⟩
  | .hbm, ⟨33, _⟩ => ⟨S4x4096x1, .i32⟩
  | .hbm, ⟨34, _⟩ => ⟨S1, .i32⟩
  | .hbm, ⟨35, _⟩ => ⟨S_, .i32⟩
  | .hbm, ⟨36, _⟩ => ⟨S4x4096x1, .i32⟩
  | .hbm, ⟨37, _⟩ => ⟨S4x4096x1, .i1⟩
  | .hbm, ⟨38, _⟩ => ⟨S1x1x1, .i32⟩
  | .hbm, ⟨39, _⟩ => ⟨S4x4096x1, .i32⟩
  | .hbm, ⟨40, _⟩ => ⟨S4x4096x1, .i1⟩
  | .hbm, ⟨41, _⟩ => ⟨S4x4096x1, .i1⟩
  | .hbm, ⟨42, _⟩ => ⟨S_, .i1⟩
  | .hbm, ⟨43, _⟩ => ⟨S4x4096, .i1⟩
  | .hbm, ⟨44, _⟩ => ⟨S4x4096x128, .f32⟩
  | .hbm, ⟨45, _⟩ => ⟨S4x4096x128, .i1⟩
  | .hbm, ⟨46, _⟩ => ⟨S_, .f32⟩
  | .hbm, ⟨47, _⟩ => ⟨S4x4096x128, .f32⟩
  | .hbm, ⟨48, _⟩ => ⟨S4x4096x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Lookup.lean ====
/-
  The values the kernel computes, free of any execution: the table lookup its two outputs hold, the elements of them each
  task writes, and what one 128-row block written out of a gathered buffer leaves.
-/
module

public import proofs.«01_k».proof.Defs
public import Idealize.ShloMosaic.Lib.SparseCore.Stream
public import Idealize.ShloMosaic.Lib.ValueIdxCore
public import proofs.«01_k».proof.Proof.Gen.KernelIdeal

@[expose] public section

noncomputable section

namespace Cert.Proof.Lookup

open Cert.KernelIdeal Cert.KernelIdeal.Gen
open Idealize.ShloMosaic Idealize.ShloMosaic.ValueIdx

variable {F : FTy → Type}

/-! ## The lookup -/

/-- Row number `n` of an output among the 32 × 4 × 128 positions: 512 rows to a task, in four blocks of 128. -/
def slot (n : Fin 16384) : S32x4x128.Idx :=
  ix3 (⟨n.val / 512, by omega⟩ : Fin 32) (⟨n.val % 512 / 128, by omega⟩ : Fin 4) (⟨n.val % 128, by omega⟩ : Fin 128)

/-- The row of an 8192-row table a position names. -/
def tableRow (v : BitVec 32) : Fin 8192 := ⟨v.toNat % 8192, Nat.mod_lt _ (by norm_num)⟩

/-- The lookup: row `n` of the output is the table's row at the `n`-th position. -/
def lookup (t : S8192x128.Idx → F .f32) (p : S32x4x128.Idx → BitVec 32) : S16384x128.Idx → F .f32 :=
  fun x => t (ix2 (tableRow (p (slot (x 0)))) (x 1 : Fin 128))

/-- Every position names a row of the tables. -/
def InTable {s : Shape} (p : s.Idx → BitVec 32) : Prop := ∀ x, (p x).toNat < 8192

/-! ## Who writes which rows -/

/-- The number of the task on subcore `j` of SparseCore `c`. -/
abbrev worker (c j : ℕ) : ℕ := 2 * j + c

/-- The output rows of worker `w`: `[512 w, 512 w + 512)`. -/
def taskRows (w : ℕ) : Finset S16384x128.Idx := Finset.univ.filter fun x => (x 0).val / 512 = w

/-- The output rows of the sixteen workers of SparseCore `c`: those whose worker number has `c`'s parity. -/
def coreRows (c : ℕ) : Finset S16384x128.Idx := Finset.univ.filter fun x => (x 0).val / 512 % 2 = c

theorem mem_taskRows {w : ℕ} {x : S16384x128.Idx} : x ∈ taskRows w ↔ (x 0).val / 512 = w := by simp [taskRows]
theorem mem_coreRows {c : ℕ} {x : S16384x128.Idx} : x ∈ coreRows c ↔ (x 0).val / 512 % 2 = c := by simp [coreRows]

theorem taskRows_disjoint (c : ℕ) : ∀ i ∈ (Finset.univ : Finset (Fin 16)), ∀ j ∈ (Finset.univ : Finset (Fin 16)), i ≠ j →
    Disjoint (taskRows (worker c i.val)) (taskRows (worker c j.val)) := fun i _ j _ h => by
  refine Finset.disjoint_left.mpr fun x hi hj => h (Fin.ext ?_)
  rw [mem_taskRows] at hi hj; unfold worker at hi hj; omega

theorem taskRows_cover (c : Fin 2) : (Finset.univ : Finset (Fin 16)).biUnion (fun i => taskRows (worker c.val i.val)) = coreRows c.val := by
  ext x
  have hx : (x 0).val < 16384 := (x 0).isLt
  simp only [Finset.mem_biUnion, Finset.mem_univ, true_and, mem_taskRows, mem_coreRows, worker]
  constructor
  · rintro ⟨i, hi⟩; omega
  · intro h; exact ⟨⟨(x 0).val / 1024, by omega⟩, by simp only; omega⟩

theorem coreRows_disjoint : ∀ i ∈ (Finset.univ : Finset (Fin 2)), ∀ j ∈ (Finset.univ : Finset (Fin 2)), i ≠ j →
    Disjoint (coreRows i.val) (coreRows j.val) := fun i _ j _ h => by
  refine Finset.disjoint_left.mpr fun x hi hj => h (Fin.ext ?_)
  rw [mem_coreRows] at hi hj; omega

theorem coreRows_cover : (Finset.univ : Finset (Fin 2)).biUnion (fun c => coreRows c.val) = Finset.univ := by
  ext x
  simp only [Finset.mem_biUnion, Finset.mem_univ, true_and, mem_coreRows, iff_true]
  exact ⟨⟨(x 0).val / 512 % 2, Nat.mod_lt _ (by norm_num)⟩, rfl⟩

/-! ## A block at a time -/

/-- Of every task's 512 rows, the first `n` at the lookup, the rest as they were. -/
def filled (t : S8192x128.Idx → F .f32) (p : S32x4x128.Idx → BitVec 32) (f : S16384x128.Idx → F .f32) (n : ℕ) : S16384x128.Idx → F .f32 :=
  fun x => if (x 0).val % 512 < n then lookup t p x else f x

theorem filled_zero (t : S8192x128.Idx → F .f32) (p : S32x4x128.Idx → BitVec 32) (f : S16384x128.Idx → F .f32) : filled t p f 0 = f :=
  funext fun _ => if_neg (Nat.not_lt_zero _)
theorem filled_all (t : S8192x128.Idx → F .f32) (p : S32x4x128.Idx → BitVec 32) (f : S16384x128.Idx → F .f32) : filled t p f 512 = lookup t p :=
  funext fun _ => if_pos (Nat.mod_lt _ (by norm_num))

/-- The list of positions worker `w` fetches: its 4 × 128 of them. -/
def listOf (p : S32x4x128.Idx → BitVec 32) (w : Fin 32) : S4x128.Idx → BitVec 32 := fun x => p (ix3 w (x 0 : Fin 4) (x 1 : Fin 128))

theorem listOf_inTable {p : S32x4x128.Idx → BitVec 32} (h : InTable p) (w : Fin 32) : InTable (listOf p w) := fun _ => h _

/-- Row `r` of the list scratch, as a list of 128. -/
abbrev listRow (l : Memref sig .scVector .vmem S4x128 .i32) (off : Fin 2 → ℕ) (inb : ∀ a, off a + S1x128.size a ≤ S4x128.size a) :
    Memref sig .scVector .vmem S128 .i32 :=
  (l.slice (Rect.unit (s := S4x128) off S1x128.size inb) (fun _ => rfl)).squeeze S128 squeezes_S1x128_S128

/-- What the list's row reads: entry `k` of it is element `(r, k)` of the scratch. -/
theorem read_listRow (off : Fin 2 → ℕ) (inb) (r : Fin 4) (hoff : off = ![r.val, 0]) (fi : S4x128.Idx → BitVec 32) (y : S128.Idx) :
    (listRow (Memref.whole cc0_scratch0) off inb).view.read (Elt F) fi y = fi (ix2 r (y 0 : Fin 128)) := by
  subst hoff
  show fi ((Rect.unit (s := S4x128) ![r.val, 0] S1x128.size inb).emb (Shape.reshapeEquiv _ y)) = _
  have e : ∀ h : S128.numel = S1x128.numel, Shape.reshapeEquiv h y = (ix2 (0 : Fin 1) (y 0 : Fin 128) : S1x128.Idx) := fun h =>
    Shape.reshapeEquiv_eq_of_rowMajor h (by rw [Shape.rowMajor_val_one, Shape.rowMajor_val_two]; simp)
  rw [e]
  congr 1
  funext a
  apply Fin.ext
  rw [Rect.emb_apply]
  match a with
  | 0 => simp
  | 1 => simp

/-- The rows a gather over the list's row `r` moves: entry `k` names the table row at position `(r, k)`. -/
theorem rows_listRow (off : Fin 2 → ℕ) (inb) (r : Fin 4) (hoff : off = ![r.val, 0]) (fi : S4x128.Idx → BitVec 32)
    (hn : S128.numel = S128x128.size gathers_S8192x128_S128x128.axis')
    (h : ∀ x, ((listRow (Memref.whole cc0_scratch0) off inb).view.read (Elt F) fi x).toNat < S8192x128.size gathers_S8192x128_S128x128.axis)
    (k : Fin 128) :
    (SparseCore.rows (F := F) ((listRow (Memref.whole cc0_scratch0) off inb).view.read (Elt F) fi) hn h k : Fin 8192) = tableRow (fi (ix2 r k)) := by
  apply Fin.ext
  have hk := h (S128.rowMajor.symm (k.cast hn.symm))
  show ((listRow (Memref.whole cc0_scratch0) off inb).view.read (Elt F) fi (S128.rowMajor.symm (k.cast hn.symm))).toNat = _
  rw [read_listRow off inb r hoff] at hk ⊢
  have e : (S128.rowMajor.symm (k.cast hn.symm) 0 : Fin 128) = k := Fin.ext (by
    rw [← Shape.rowMajor_val_one, Equiv.apply_symm_apply]; rfl)
  rw [e] at hk ⊢
  exact (Nat.mod_eq_of_lt hk).symm

/-- A gathered buffer: row `k` of it is the table's row at position `(r, k)` of the list. -/
theorem gathered_apply (off : Fin 2 → ℕ) (inb) (r : Fin 4) (hoff : off = ![r.val, 0]) (fi : S4x128.Idx → BitVec 32)
    (hn : S128.numel = S128x128.size gathers_S8192x128_S128x128.axis')
    (h : ∀ x, ((listRow (Memref.whole cc0_scratch0) off inb).view.read (Elt F) fi x).toNat < S8192x128.size gathers_S8192x128_S128x128.axis)
    (t : S8192x128.Idx → F .f32) (x : S128x128.Idx) :
    (SparseCore.gatherPayload (F := F) (e := .f32) gathers_S8192x128_S128x128 t
      (SparseCore.rows ((listRow (Memref.whole cc0_scratch0) off inb).view.read (Elt F) fi) hn h) x : F .f32)
      = t (ix2 (tableRow (fi (ix2 r (x 0 : Fin 128)))) (x 1 : Fin 128)) := by
  unfold SparseCore.gatherPayload
  refine congrArg t ?_
  funext a
  match a with
  | 0 => exact rows_listRow off inb r hoff fi hn h (x 0)
  | 1 => rfl

/-- The table's slice a gather reads is the whole table. -/
theorem read_table (tb : Memref sig .scVector .hbm S8192x128 .f32) (t : tb.view.ty.Contents (Elt F)) :
    (tb.slice (Rect.unit (s := S8192x128) ![0, 0] S8192x128.size inb_S8192x128_S8192x128_0_0) (fun _ => rfl)).view.read (Elt F) t
      = tb.view.read (Elt F) t := by
  funext x
  show tb.view.read (Elt F) t ((Rect.unit (s := S8192x128) ![0, 0] S8192x128.size inb_S8192x128_S8192x128_0_0).emb x) = _
  congr 1
  funext a
  apply Fin.ext
  rw [Rect.emb_apply]
  match a with
  | 0 => simp
  | 1 => simp

/-- A 128-row block written into an output at row `n`: the block's rows on `[n, n + 128)`, the old rows elsewhere. -/
theorem read_block (out : Memref sig .scVector .hbm S16384x128 .f32) (off : Fin 2 → ℕ) (inb : ∀ a, off a + S128x128.size a ≤ S16384x128.size a)
    (n : ℕ) (hoff : off = ![n, 0]) (f : out.view.ty.Contents (Elt F)) (pay : S128x128.Idx → F .f32) (x : S16384x128.Idx) :
    out.view.read (Elt F) ((out.slice (Rect.unit (s := S16384x128) off S128x128.size inb) (fun _ => rfl)).view.write (Elt F) f pay Finset.univ) x
      = if h : n ≤ (x 0).val ∧ (x 0).val < n + 128 then pay (ix2 (⟨(x 0).val - n, by omega⟩ : Fin 128) (x 1 : Fin 128)) else out.view.read (Elt F) f x := by
  subst hoff
  have hx1 : (x 1).val < 128 := (x 1).isLt
  split
  · next h =>
    have e : (Rect.unit (s := S16384x128) ![n, 0] S128x128.size inb).emb (ix2 (⟨(x 0).val - n, by omega⟩ : Fin 128) (x 1 : Fin 128)) = x := by
      funext a
      apply Fin.ext
      rw [Rect.emb_apply]
      match a with
      | 0 => simp; omega
      | 1 => simp
    have hw := View.read_slice_write_emb (v := out.view) (Val := Elt F) (Rect.unit (s := S16384x128) ![n, 0] S128x128.size inb) f pay
      (M := Finset.univ) (x := ix2 (⟨(x 0).val - n, by omega⟩ : Fin 128) (x 1 : Fin 128)) (Finset.mem_univ _)
    rw [e] at hw
    exact hw
  · next h =>
    have hx : x ∉ Finset.univ.map (Rect.unit (s := S16384x128) ![n, 0] S128x128.size inb).emb := fun hm => h (by
      obtain ⟨y, -, rfl⟩ := Finset.mem_map.mp hm
      have hy : (y 0).val < 128 := (y 0).isLt
      rw [Rect.emb_apply]
      simp; omega)
    have hw := View.read_slice_write_of_not_mem (v := out.view) (Val := Elt F) (Rect.unit (s := S16384x128) ![n, 0] S128x128.size inb) f pay
      Finset.univ (y := x) hx
    exact hw

/-- The block worker `w` writes in round `r` lies among its rows. -/
theorem block_subset (w r : ℕ) (hr : r < 4) (off : Fin 2 → ℕ) (inb : ∀ a, off a + S128x128.size a ≤ S16384x128.size a)
    (hoff : off = ![512 * w + 128 * r, 0]) : (Rect.unit (s := S16384x128) off S128x128.size inb).set ⊆ taskRows w := by
  subst hoff
  intro x hx
  have := (Rect.mem_set_unit.mp hx) 0
  simp at this
  rw [mem_taskRows]; omega

/-- One round of one output: worker `w`'s rows, filled through the first `r` blocks, take the gathered buffer as their next block. -/
theorem filled_step (out : Memref sig .scVector .hbm S16384x128 .f32) (w : Fin 32) (r : Fin 4)
    (off : Fin 2 → ℕ) (inb : ∀ a, off a + S128x128.size a ≤ S16384x128.size a) (hoff : off = ![512 * w.val + 128 * r.val, 0])
    (t : S8192x128.Idx → F .f32) (p : S32x4x128.Idx → BitVec 32) (f₀ : S16384x128.Idx → F .f32) (f : out.view.ty.Contents (Elt F))
    (hf : out.view.read (Elt F) f = filled t p f₀ (128 * r.val)) (pay : S128x128.Idx → F .f32)
    (hpay : ∀ y, pay y = t (ix2 (tableRow (listOf p w (ix2 r (y 0 : Fin 128)))) (y 1 : Fin 128))) :
    ∀ x ∈ taskRows w.val,
      out.view.read (Elt F) ((out.slice (Rect.unit (s := S16384x128) off S128x128.size inb) (fun _ => rfl)).view.write (Elt F) f pay Finset.univ) x
        = filled t p f₀ (128 * (r.val + 1)) x := by
  intro x hx
  rw [mem_taskRows] at hx
  rw [read_block out off inb _ hoff f pay x, hf]
  unfold filled
  split
  · next h =>
    have e : slot (x 0) = ix3 w r (⟨(x 0).val - (512 * w.val + 128 * r.val), by omega⟩ : Fin 128) := by
      unfold slot
      congr 1 <;> apply Fin.ext <;> simp only <;> omega
    rw [if_pos (by omega), hpay]
    unfold lookup
    rw [e]
    rfl
  · next h =>
    by_cases h1 : (x 0).val % 512 < 128 * r.val
    · rw [if_pos h1, if_pos (by omega)]
    · rw [if_neg h1, if_neg (by omega)]

end Cert.Proof.Lookup

end
-- ==== Proof.Tile.lean ====
/-
  One task of the SparseCore call: the launch's set-up, one round of it (two gathers over one row of the position list, each
  followed by the copy of the gathered block to its output), and the task's whole body, four rounds after the list's fetch.
-/
module

public import Idealize.ShloMosaic.Lib.SparseCore.FromWhole
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Skeleton
public import proofs.«01_k».proof.Proof.Lookup

@[expose] public section

noncomputable section

namespace Cert.Proof.Task

open Cert.KernelIdeal Cert.KernelIdeal.Gen Cert.Proof.Lookup
open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers as a task names them -/

abbrev cosM : Memref sig .scVector .hbm S8192x128 .f32 := Memref.whole main_arg0_scv
abbrev sinM : Memref sig .scVector .hbm S8192x128 .f32 := Memref.whole main_arg1_scv
abbrev posM : Memref sig .scVector .hbm S32x4x128 .i32 := Memref.whole main_v0_scv
abbrev outC : Memref sig .scVector .hbm S16384x128 .f32 := Memref.whole main_v1_0_scv
abbrev outS : Memref sig .scVector .hbm S16384x128 .f32 := Memref.whole main_v1_1_scv
abbrev listM : Memref sig .scVector .vmem S4x128 .i32 := Memref.whole cc0_scratch0
abbrev bufC : Memref sig .scVector .vmem S128x128 .f32 := Memref.whole cc0_scratch1
abbrev bufS : Memref sig .scVector .vmem S128x128 .f32 := Memref.whole cc0_scratch2

abbrev cV (L : grid0.Coords) : Fin τ.nSC := (L 0).castLE hcore0
abbrev jV (L : grid0.Coords) : Fin τ.nSub := (L 1).castLE hsub0
/-- The vector subcore a task runs on. -/
abbrev tile (d : Dev nD) (L : grid0.Coords) : Thread nD τ := V d (cV L) (jV L)

/-- The task's number among the 32. -/
def wid (L : grid0.Coords) : Fin 32 :=
  ⟨worker (L 0).val (L 1).val, by have h0 : (L 0).val < 2 := (L 0).isLt; have h1 : (L 1).val < 16 := (L 1).isLt; unfold worker; omega⟩

abbrev tableSlice (tb : Memref sig .scVector .hbm S8192x128 .f32) : Memref sig .scVector .hbm S8192x128 .f32 :=
  tb.slice (Rect.unit (s := S8192x128) ![0, 0] S8192x128.size inb_S8192x128_S8192x128_0_0) (fun _ => rfl)
abbrev block (out : Memref sig .scVector .hbm S16384x128 .f32) (off : Fin 2 → ℕ) (inb : ∀ a, off a + S128x128.size a ≤ S16384x128.size a) :
    Memref sig .scVector .hbm S128x128 .f32 := out.slice (Rect.unit (s := S16384x128) off S128x128.size inb) (fun _ => rfl)
abbrev posBlock (L : grid0.Coords) : Memref sig .scVector .hbm S4x128 .i32 :=
  (posM.slice (Rect.unit (s := S32x4x128) (k0_off1 L) S1x4x128.size (k0_off1_inb L)) (fun _ => rfl)).squeeze S4x128 squeezes_S1x4x128_S4x128

/-- What the fetch of the list reads: the task's 4 × 128 positions. -/
theorem read_posBlock (L : grid0.Coords) (p : S32x4x128.Idx → BitVec 32) :
    (posBlock L).view.read (Elt F) p = listOf p (wid L) := by
  funext y
  show p ((Rect.unit (s := S32x4x128) (k0_off1 L) S1x4x128.size (k0_off1_inb L)).emb (Shape.reshapeEquiv _ y)) = _
  have e : ∀ h : S4x128.numel = S1x4x128.numel,
      Shape.reshapeEquiv h y = (ix3 (0 : Fin 1) (y 0 : Fin 4) (y 1 : Fin 128) : S1x4x128.Idx) := fun h =>
    Shape.reshapeEquiv_eq_of_rowMajor h (by rw [Shape.rowMajor_val_two, Shape.rowMajor_val_three]; simp)
  rw [e]
  unfold listOf
  congr 1
  funext a
  apply Fin.ext
  rw [Rect.emb_apply]
  have h0 : k0_off1 L a = (![2 * (L 1).val + (L 0).val, 0, 0] : Fin 3 → ℕ) a := congrFun (k0_off1_eq L) a
  show k0_off1 L a + 1 * _ = _
  rw [h0]
  match a with
  | 0 => simp [wid, worker]
  | 1 => simp
  | 2 => simp

/-- A row of a list of in-range positions is in range. -/
theorem inRange (off : Fin 2 → ℕ) (inb) (r : Fin 4) (hoff : off = ![r.val, 0]) (fi : S4x128.Idx → BitVec 32) (hfi : InTable fi) :
    ∀ x, ((listRow listM off inb).view.read (Elt F) fi x).toNat < S8192x128.size gathers_S8192x128_S128x128.axis := fun x => by
  rw [read_listRow off inb r hoff]; exact hfi _

/-- What a copy out of a buffer carries once a gather over the list's row `r` has landed there: row `k` is the table's row at position `(r, k)`. -/
theorem landed (tb : Memref sig .scVector .hbm S8192x128 .f32) (buf : Memref sig .scVector .vmem S128x128 .f32) (off : Fin 2 → ℕ) (inb) (r : Fin 4)
    (hoff : off = ![r.val, 0]) (fi : S4x128.Idx → BitVec 32)
    (h : ∀ x, ((listRow listM off inb).view.read (Elt F) fi x).toNat < S8192x128.size gathers_S8192x128_S128x128.axis)
    (t : tb.view.ty.Contents (Elt F)) (b : buf.view.ty.Contents (Elt F)) (y : S128x128.Idx) :
    (ReadAs.same (Val := Elt F) (s := S128x128) (e := .f32)).apply (buf.view.read (Elt F) (buf.view.write (Elt F) b
      (SparseCore.gatherPayload gathers_S8192x128_S128x128 ((tableSlice tb).view.read (Elt F) t)
        (SparseCore.rows ((listRow listM off inb).view.read (Elt F) fi) rfl h)) Finset.univ)) y
      = tb.view.read (Elt F) t (ix2 (tableRow (fi (ix2 r (y 0 : Fin 128)))) (y 1 : Fin 128)) := by
  rw [View.read_write_univ, read_table tb t]
  exact gathered_apply off inb r hoff fi rfl h _ y

variable [FloatOps F]

/-! ## One round -/

section Round

variable (d : Dev nD) (L : grid0.Coords) (q : PosShare TreeShare)
  (tc ts : S8192x128.Idx → F .f32) (p : S32x4x128.Idx → BitVec 32) (fc fs : S16384x128.Idx → F .f32)
  (O : CellTallies nD τ sig (HIx 1)) (W : Waits sig (HIx 1))

/-- What the task holds of the operands once the first `n` of its rows are written: its shares of the tables, its rows of both outputs. -/
abbrev Rows (n : ℕ) : sProp 𝕄 :=
  iprop((cosM.view.loc (tile d L) ↦{q} tc) ∗ (sinM.view.loc (tile d L) ↦{q} ts)
    ∗ (outC.view.loc (tile d L) ↦[taskRows (wid L).val]{fullShare} filled tc p fc n)
    ∗ (outS.view.loc (tile d L) ↦[taskRows (wid L).val]{fullShare} filled ts p fs n))

/-- What it owes, the waits it has made recorded. -/
abbrev Owed : sProp 𝕄 := iprop(∃ W', ⌜∀ x ∈ W', x ∈ W ∨ x.2 = none⌝ ∗ owes (tile d L) O W')

/-- What a round starts from and leaves. -/
abbrev Held (n : ℕ) : sProp 𝕄 :=
  iprop(Rows d L q tc ts p fc fs n
    ∗ (listM.view.loc (tile d L) ↦{fullShare} listOf p (wid L))
    ∗ (∃ f, bufC.view.loc (tile d L) ↦{fullShare} f) ∗ (∃ f, bufS.view.loc (tile d L) ↦{fullShare} f)
    ∗ semVal (tile d L, SemLoc.dma cc0_scratch3.sem) 0 ∗ semVal (tile d L, SemLoc.dma cc0_scratch4.sem) 0
    ∗ Owed d L O W)

omit [FloatOps F] in
theorem owed_insert {W' : Waits sig (HIx 1)} (s : SemLoc sig) (h : ∀ x ∈ W', x ∈ W ∨ x.2 = none) :
    ∀ x ∈ insert (s, (default : HIx 1)) W', x ∈ W ∨ x.2 = none := fun x hx =>
  (Finset.mem_insert.mp hx).elim (fun e => .inr (e ▸ rfl)) (h x)

set_option maxHeartbeats 4000000 in
/-- Round `r`: both gathers over the list's row `r` are started, the first is waited for and its block copied out, then the second's. -/
theorem round (hO : ∀ g, O g none = 0) (hp : InTable p) (r : Fin 4) (loff : Fin 2 → ℕ) (linb) (hl : loff = ![r.val, 0])
    (ooff : Fin 2 → ℕ) (oinb) (ho : ooff = ![512 * (wid L).val + 128 * r.val, 0]) (sc ss : DmaSems sig S_) {α : Type} (Q : α → sProp 𝕄)
    (k : PUnit → Prog (TpuEff nD τ sig (Elt F) Λ₀ (.scVector (cV L) (jV L))) α) :
    iprop(levAts (K (F := F)).L (K (F := F)).lev ∗ Held d L q tc ts p fc fs O W (128 * r.val)
        ∗ semVal (tile d L, SemLoc.dma sc.sem) 0 ∗ semVal (tile d L, SemLoc.dma ss.sem) 0)
      ⊢ iprop((iprop(Held d L q tc ts p fc fs O W (128 * (r.val + 1))
          ∗ semVal (tile d L, SemLoc.dma sc.sem) 0 ∗ semVal (tile d L, SemLoc.dma ss.sem) 0)
            -∗ wp frame (wpE (defs₀ (F := F)) 𝒱₀ (tile d L) none) Set.univ (k ⟨⟩) Q)
        -∗ wp frame (wpE (defs₀ (F := F)) 𝒱₀ (tile d L) none) Set.univ
          (SparseCore.enqueueIndirectGather rfl (tableSlice cosM) bufC gathers_S8192x128_S128x128 (listRow listM loff linb) rfl cc0_scratch3.sem
              (View.wordExact_bits rfl) rfl (Or.inl rfl) >>= fun _ =>
            SparseCore.enqueueIndirectGather rfl (tableSlice sinM) bufS gathers_S8192x128_S128x128 (listRow listM loff linb) rfl cc0_scratch4.sem
              (View.wordExact_bits rfl) rfl (Or.inl rfl) >>= fun _ =>
            SparseCore.waitIndirectGather cc0_scratch3.sem (tableSlice cosM) bufC (View.wordExact_bits rfl) (Memref.isWhole_whole _).wordExact >>= fun _ =>
            Prog.lift (.enqueueDma bufC (.here (block outC ooff oinb)) (.dma sc.sem) (Memref.isWhole_whole _).wordExact (View.wordExact_bits rfl)
              ⟨Or.inl rfl, trivial⟩) >>= fun _ =>
            Prog.lift (.waitDma2 sc.sem bufC (block outC ooff oinb) (Memref.isWhole_whole _).wordExact (View.wordExact_bits rfl)) >>= fun _ =>
            SparseCore.waitIndirectGather cc0_scratch4.sem (tableSlice sinM) bufS (View.wordExact_bits rfl) (Memref.isWhole_whole _).wordExact >>= fun _ =>
            Prog.lift (.enqueueDma bufS (.here (block outS ooff oinb)) (.dma ss.sem) (Memref.isWhole_whole _).wordExact (View.wordExact_bits rfl)
              ⟨Or.inl rfl, trivial⟩) >>= fun _ =>
            Prog.lift (.waitDma2 ss.sem bufS (block outS ooff oinb) (Memref.isWhole_whole _).wordExact (View.wordExact_bits rfl)) >>= k) Q) := by
  have hlist := inRange (F := F) loff linb r hl _ (listOf_inTable hp (wid L))
  have hNC : ∑ j, (bufC.slice (S128x128.rowRect gathers_S8192x128_S128x128.axis' j) (S128x128.stride_rowRect gathers_S8192x128_S128x128.axis' j)).view.dmaCredit
      = bufC.view.dmaCredit := by decide
  have hNS : ∑ j, (bufS.slice (S128x128.rowRect gathers_S8192x128_S128x128.axis' j) (S128x128.stride_rowRect gathers_S8192x128_S128x128.axis' j)).view.dmaCredit
      = bufS.view.dmaCredit := by decide
  iintro ⟨#Hlv, ⟨⟨Htc, Hts, Hoc, Hos⟩, Hl, ⟨%b₁, Hbc⟩, ⟨%b₂, Hbs⟩, HsA, HsB, %W', %hW', HO⟩, HsC, HsD⟩ Hk
  ihave #Hmw := (show levAts (K (F := F)).L (K (F := F)).lev ⊢ Transfers.MayWaits (tile d L) (default : HIx 1) O from
    (K (F := F)).mayWaits_none (thr := tile d L) hO) $$ Hlv
  ihave ⟨Hl1, Hl2⟩ := (pointsTo_share (PosShare.mem_left_op_right fullShare)).1 $$ Hl
  iapply (SparseCore.wp_gatherFromWhole countersEmb 𝒱₀ (tile d L) none (default : HIx 1) _ hNC (by decide) hlist) $$ [Htc Hbc Hl1 HsA]
  · iframe Htc Hbc Hl1 HsA
  iintro HfA
  iapply (SparseCore.wp_gatherFromWhole countersEmb 𝒱₀ (tile d L) none (default : HIx 1) _ hNS (by decide) hlist) $$ [Hts Hbs Hl2 HsB]
  · iframe Hts Hbs Hl2 HsB
  iintro HfB
  simp only [SparseCore.waitIndirectGather, Prog.lift, Prog.bind_op, Prog.bind_ret]
  iapply (Transfers.wp_waitLocalO countersEmb 𝒱₀ (tile d L) none (default : HIx 1) (rfl : bufC.view.dmaCredit = _)) $$ [HfA HO]
  · iframe HfA HO
    iapply (Transfers.MayWaits.elim (SemLoc.dma cc0_scratch3.sem)) $$ Hmw
  iintro ⟨⟨Hbc, Htc, Hl1⟩, HsA, HO⟩
  iapply (Transfers.wp_dmaFromWhole countersEmb 𝒱₀ (tile d L) none (dst := block outC ooff oinb) (sm := .dma sc.sem)
    (default : HIx 1) _ rfl (show 0 < (main_v1_0_scv : Ref sig .scVector).dmaCredit S128x128 .f32 by decide)
    ((View.set_slice_whole _ _).trans_subset (block_subset _ _ r.isLt ooff oinb ho))) $$ [Hbc Hoc HsC]
  · iframe Hbc Hoc HsC
  iintro HfC
  iapply (Transfers.wp_waitLocalO countersEmb 𝒱₀ (tile d L) none (default : HIx 1) rfl) $$ [HfC HO]
  · iframe HfC HO
    iapply (Transfers.MayWaits.elim (SemLoc.dma sc.sem)) $$ Hmw
  iintro ⟨⟨Hoc, Hbc⟩, HsC, HO⟩
  iapply (Transfers.wp_waitLocalO countersEmb 𝒱₀ (tile d L) none (default : HIx 1) (rfl : bufS.view.dmaCredit = _)) $$ [HfB HO]
  · iframe HfB HO
    iapply (Transfers.MayWaits.elim (SemLoc.dma cc0_scratch4.sem)) $$ Hmw
  iintro ⟨⟨Hbs, Hts, Hl2⟩, HsB, HO⟩
  iapply (Transfers.wp_dmaFromWhole countersEmb 𝒱₀ (tile d L) none (dst := block outS ooff oinb) (sm := .dma ss.sem)
    (default : HIx 1) _ rfl (show 0 < (main_v1_1_scv : Ref sig .scVector).dmaCredit S128x128 .f32 by decide)
    ((View.set_slice_whole _ _).trans_subset (block_subset _ _ r.isLt ooff oinb ho))) $$ [Hbs Hos HsD]
  · iframe Hbs Hos HsD
  iintro HfD
  iapply (Transfers.wp_waitLocalO countersEmb 𝒱₀ (tile d L) none (default : HIx 1) rfl) $$ [HfD HO]
  · iframe HfD HO
    iapply (Transfers.MayWaits.elim (SemLoc.dma ss.sem)) $$ Hmw
  iintro ⟨⟨Hos, Hbs⟩, HsD, HO⟩
  iapply Hk
  iframe HsC HsD
  iframe Htc Hts HsA HsB
  isplitl [Hoc Hos]
  · isplitl [Hoc]
    · iapply (Entails.of_eq (pointsTo_congr (filled_step outC (wid L) r ooff oinb ho tc p fc (filled tc p fc (128 * r.val)) rfl _
        (landed cosM bufC loff linb r hl _ hlist tc b₁))))
      iexact Hoc
    · iapply (Entails.of_eq (pointsTo_congr (filled_step outS (wid L) r ooff oinb ho ts p fs (filled ts p fs (128 * r.val)) rfl _
        (landed sinM bufS loff linb r hl _ hlist ts b₂))))
      iexact Hos
  isplitl [Hl1 Hl2]
  · iapply (pointsTo_share (PosShare.mem_left_op_right fullShare)).2
    iframe Hl1 Hl2
  isplitl [Hbc]; · iexists _; iexact Hbc
  isplitl [Hbs]; · iexists _; iexact Hbs
  iexists _; iframe HO
  ipureintro
  exact owed_insert W _ (owed_insert W _ (owed_insert W _ (owed_insert W _ hW')))

end Round

end Cert.Proof.Task

end
-- ==== Proof.Body.lean ====
/-
  The body of one task: its list of positions fetched, then the four rounds over it.
-/
module

public import proofs.«01_k».proof.Proof.Tile

@[expose] public section

noncomputable section

namespace Cert.Proof.Task

open Cert.KernelIdeal Cert.KernelIdeal.Gen Cert.Proof.Lookup
open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords)

/-- The eleven semaphores the kernel names. -/
abbrev usedSems : Finset (SemLoc sig) :=
  {.dma cc0_scratch3.sem, .dma cc0_scratch4.sem, .dma cc0_scoped0.sem, .dma cc0_scoped1.sem, .dma cc0_scoped2.sem, .dma cc0_scoped3.sem,
    .dma cc0_scoped4.sem, .dma cc0_scoped5.sem, .dma cc0_scoped6.sem, .dma cc0_scoped7.sem, .dma cc0_scoped8.sem}
/-- The three scratch buffers it names. -/
abbrev usedBufs : Finset (Ref sig .scVector) := {cc0_scratch0, cc0_scratch1, cc0_scratch2}

/-- The subcore's semaphores are those eleven, at zero, and the rest. -/
theorem ownSems0_split : (ownSems0 (tile d L) : sProp 𝕄)
    = iprop((semVal (tile d L, SemLoc.dma cc0_scratch3.sem) 0 ∗ semVal (tile d L, SemLoc.dma cc0_scratch4.sem) 0
        ∗ semVal (tile d L, SemLoc.dma cc0_scoped0.sem) 0 ∗ semVal (tile d L, SemLoc.dma cc0_scoped1.sem) 0
        ∗ semVal (tile d L, SemLoc.dma cc0_scoped2.sem) 0 ∗ semVal (tile d L, SemLoc.dma cc0_scoped3.sem) 0
        ∗ semVal (tile d L, SemLoc.dma cc0_scoped4.sem) 0 ∗ semVal (tile d L, SemLoc.dma cc0_scoped5.sem) 0
        ∗ semVal (tile d L, SemLoc.dma cc0_scoped6.sem) 0 ∗ semVal (tile d L, SemLoc.dma cc0_scoped7.sem) 0
        ∗ semVal (tile d L, SemLoc.dma cc0_scoped8.sem) 0)
      ∗ bigSep (ownCells (tile d L) \ usedSems.image fun s => (tile d L, s)) fun g => semVal g 0) := by
  unfold SparseCore.Cfg.ownSems0
  have hs : ∀ s ∈ usedSems, s.isScoped .scVector = true := by decide
  rw [SparseCore.bigSep_sdiff_split' (t := usedSems.image fun s => (tile d L, s)) fun g h => by
      obtain ⟨s, hm, rfl⟩ := Finset.mem_image.mp h
      exact mem_ownCells.mpr ⟨rfl, hs s hm⟩,
    bigSep_image_of_injOn fun _ _ _ _ e => (Prod.mk.inj e).2]
  congr 1
  iterate 10 rw [SparseCore.bigSep_insert' (by decide)]
  rw [bigSep_singleton]

/-- The subcore's buffers are the three scratches, each at some contents, and the rest. -/
theorem ownBufs_split : (ownBufs (tile d L) : sProp 𝕄)
    = iprop(((∃ f, listM.view.loc (tile d L) ↦{fullShare} f) ∗ (∃ f, bufC.view.loc (tile d L) ↦{fullShare} f)
        ∗ (∃ f, bufS.view.loc (tile d L) ↦{fullShare} f))
      ∗ bigSep (ownRefs (tile d L).2 \ usedBufs.image (tile d L).2.devRef) fun b => iprop(∃ f, (((tile d L).1, b) : Loc nD τ sig) ↦{fullShare} f)) := by
  unfold SparseCore.Cfg.ownBufs
  rw [SparseCore.bigSep_sdiff_split' (t := usedBufs.image (tile d L).2.devRef) fun b h => by
      obtain ⟨b, hm, rfl⟩ := Finset.mem_image.mp h
      simp only [usedBufs, Finset.mem_insert, Finset.mem_singleton] at hm
      rcases hm with rfl | rfl | rfl <;> exact SparseCore.Cfg.mem_ownRefs_of_owner rfl,
    bigSep_image_of_injOn fun _ _ _ _ e => Proc.devRef_injective _ e]
  congr 1
  have h₀ : (cc0_scratch0 : Ref sig .scVector) ∉ ({cc0_scratch1, cc0_scratch2} : Finset (Ref sig .scVector)) := by decide
  have h₁ : (cc0_scratch1 : Ref sig .scVector) ∉ ({cc0_scratch2} : Finset (Ref sig .scVector)) := by decide
  rw [SparseCore.bigSep_insert' h₀, SparseCore.bigSep_insert' h₁, bigSep_singleton]

variable [FloatOps F]

/-- The first row of the block each round writes. -/
theorem blockOff (r : Fin 4) : k0_off2 L (BitVec.ofNat 32 (128 * r.val)) = ![512 * (wid L).val + 128 * r.val, 0] := by
  rw [k0_off2_eq]
  show ![_, 0] = ![512 * worker (L 0).val (L 1).val + 128 * r.val, 0]
  unfold worker
  congr 1
  omega

variable (q : PosShare TreeShare) (tc ts : S8192x128.Idx → F .f32) (p : S32x4x128.Idx → BitVec 32) (fc fs : S16384x128.Idx → F .f32)
  (O : CellTallies nD τ sig (HIx 1)) (W : Waits sig (HIx 1))

set_option maxHeartbeats 4000000 in
set_option maxRecDepth 4096 in
/-- The task run from its shares of the tables and of the positions and its rows of the outputs: its rows left at the lookup. -/
theorem tile_body (hF : (K (F := F)).Facts) (hO : ∀ g, O g none = 0) (hp : InTable p) :
    iprop(levAts (K (F := F)).L (K (F := F)).lev ∗ emp
        ∗ (Rows d L q tc ts p fc fs 0 ∗ (posM.view.loc (tile d L) ↦{q} p))
        ∗ scopedBufs (tile d L) ∗ scopedSems0 (tile d L) ∗ owes (tile d L) O W)
      ⊢ wp frame (wpE (defs₀ (F := F)) 𝒱₀ (tile d L) none) Set.univ
          (cc0__gather_kernel L cosM (Memref.isWhole_whole _) sinM (Memref.isWhole_whole _) posM (Memref.isWhole_whole _) outC (Memref.isWhole_whole _)
            outS (Memref.isWhole_whole _) listM (Memref.isWhole_whole _) bufC (Memref.isWhole_whole _) bufS (Memref.isWhole_whole _)
            cc0_scratch3 cc0_scratch4 cc0_scoped0 cc0_scoped1 cc0_scoped2 cc0_scoped3 cc0_scoped4 cc0_scoped5 cc0_scoped6 cc0_scoped7 cc0_scoped8)
          fun _ => iprop((Rows d L q tc ts p fc fs 512 ∗ (posM.view.loc (tile d L) ↦{q} p))
            ∗ scopedBufs (tile d L) ∗ scopedSems0 (tile d L) ∗ Owed d L O W) := by
  rw [(K (F := F)).scopedBufs_V hF d (cV L) (jV L), SparseCore.Cfg.scopedSems0_V (Val := Elt F) d (cV L) (jV L), ownSems0_split, ownBufs_split]
  rw [cc0__gather_kernel_eq_skeleton]
  unfold cc0__gather_kernel_skel
  rw [k0_part1_eq_skeleton, k0_part2_eq_skeleton, k0_part3_eq_skeleton, k0_part4_eq_skeleton]
  unfold k0_part1_skel k0_part2_skel k0_part3_skel k0_part4_skel
  simp only [bind_assoc, pure_bind]
  iintro ⟨#Hlv, -, ⟨Hrows, Hpos⟩, ⟨⟨⟨%l, Hl⟩, Hbc, Hbs⟩, Hbufs⟩, ⟨⟨HsA, HsB, Hs0, Hs1, Hs2, Hs3, Hs4, Hs5, Hs6, Hs7, Hs8⟩, Hsems⟩, HO⟩
  ihave #Hmw := (show levAts (K (F := F)).L (K (F := F)).lev ⊢ Transfers.MayWaits (tile d L) (default : HIx 1) O from
    (K (F := F)).mayWaits_none (thr := tile d L) hO) $$ Hlv
  iapply (Transfers.wp_dmaFromWhole countersEmb 𝒱₀ (tile d L) none (src := posBlock L) (dst := listM) (sm := .dma cc0_scoped0.sem) (default : HIx 1) _ rfl
    (show 0 < (cc0_scratch0 : Ref sig .scVector).dmaCredit S4x128 .i32 by decide) (Finset.subset_univ _)) $$ [Hpos Hl Hs0]
  · iframe Hpos Hl Hs0
  iintro Hf
  iapply (Transfers.wp_waitLocalO countersEmb 𝒱₀ (tile d L) none (default : HIx 1) rfl) $$ [Hf HO]
  · iframe Hf HO
    iapply (Transfers.MayWaits.elim (SemLoc.dma cc0_scoped0.sem)) $$ Hmw
  iintro ⟨⟨Hl, Hpos⟩, Hs0, HO⟩
  ihave Hl := (Entails.of_eq (show (listM.view.loc (tile d L) ↦{fullShare} listM.view.write (Elt F) l
      ((ReadAs.same (Val := Elt F) (s := S4x128) (e := .i32)).apply ((posBlock L).view.read (Elt F) p)) Finset.univ : sProp 𝕄)
      = listM.view.loc (tile d L) ↦{fullShare} listOf p (wid L) by
    rw [read_posBlock]; exact congrArg _ (View.write_whole_univ ..))) $$ Hl
  iapply (round d L q tc ts p fc fs O W hO hp 0 _ _ rfl _ _ (blockOff L 0) cc0_scoped1 cc0_scoped2) $$ [Hrows Hl Hbc Hbs HsA HsB HO Hs1 Hs2]
  · isplitr; · iexact Hlv
    iframe Hs1 Hs2
    isplitl [Hrows]; · iexact Hrows
    iframe Hl Hbc Hbs HsA HsB
    iexists _; iframe HO; ipureintro
    exact owed_insert W _ fun x hx => .inl hx
  iintro ⟨Hh, Hs1, Hs2⟩
  iapply (round d L q tc ts p fc fs O W hO hp 1 _ _ rfl _ _ (blockOff L 1) cc0_scoped3 cc0_scoped4) $$ [Hh Hs3 Hs4]
  · iframe Hlv Hh Hs3 Hs4
  iintro ⟨Hh, Hs3, Hs4⟩
  iapply (round d L q tc ts p fc fs O W hO hp 2 _ _ rfl _ _ (blockOff L 2) cc0_scoped5 cc0_scoped6) $$ [Hh Hs5 Hs6]
  · iframe Hlv Hh Hs5 Hs6
  iintro ⟨Hh, Hs5, Hs6⟩
  iapply (round d L q tc ts p fc fs O W hO hp 3 _ _ rfl _ _ (blockOff L 3) cc0_scoped7 cc0_scoped8) $$ [Hh Hs7 Hs8]
  · iframe Hlv Hh Hs7 Hs8
  iintro ⟨Hh, Hs7, Hs8⟩
  icases Hh with ⟨Hrows, Hl, Hbc, Hbs, HsA, HsB, HO⟩
  rw [wp_pure]
  imodintro
  iframe Hrows Hpos HO Hbufs Hsems Hbc Hbs HsA HsB Hs0 Hs1 Hs2 Hs3 Hs4 Hs5 Hs6 Hs7 Hs8
  iexists _; iexact Hl

end Cert.Proof.Task

end
-- ==== Proof.Launch.lean ====
/-
  The whole program: what the call hands each SparseCore and each task, the entry function's reshapes around the call, and the
  run's end: both results at the lookup, the arguments as they were, every semaphore at zero.
-/
module

public import proofs.«01_k».proof.Proof.Body

@[expose] public section

noncomputable section

namespace Cert.Proof.Task

open Cert.KernelIdeal Cert.KernelIdeal.Gen Cert.Proof.Lookup
open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev cosLoc (d : Dev nD) : Loc nD τ sig := (SparseCore.T d).loc main_arg0
abbrev sinLoc (d : Dev nD) : Loc nD τ sig := (SparseCore.T d).loc main_arg1
abbrev idxLoc (d : Dev nD) : Loc nD τ sig := (SparseCore.T d).loc main_arg2
abbrev posLoc (d : Dev nD) : Loc nD τ sig := (SparseCore.T d).loc main_v0
abbrev outCLoc (d : Dev nD) : Loc nD τ sig := (SparseCore.T d).loc main_v1_0
abbrev outSLoc (d : Dev nD) : Loc nD τ sig := (SparseCore.T d).loc main_v1_1
abbrev resCLoc (d : Dev nD) : Loc nD τ sig := (SparseCore.T d).loc main_v2
abbrev resSLoc (d : Dev nD) : Loc nD τ sig := (SparseCore.T d).loc main_v3

/-- The position ids, as the 32 × 4 × 128 the kernel fetches them. -/
def posOf (i : S4x4096.Idx → BitVec 32) : S32x4x128.Idx → BitVec 32 := shapeCast S32x4x128 i shapeCasts_S4x4096_S32x4x128
/-- A result: the lookup of the position ids in a table, batch by batch. -/
def resultOf (t : S8192x128.Idx → F .f32) (i : S4x4096.Idx → BitVec 32) : S4x4096x128.Idx → F .f32 :=
  shapeCast S4x4096x128 (lookup t (posOf i)) shapeCasts_S16384x128_S4x4096x128

/-! ## What the call carries -/

/-- A share of the tables and of the positions, and some rows of both outputs. -/
abbrev Carry (d : Dev nD) (q : PosShare TreeShare) (I : Finset S16384x128.Idx) (gc gs : S16384x128.Idx → F .f32) : sProp 𝕄 :=
  iprop(((cosLoc d ↦{q} m (cosLoc d)) ∗ (sinLoc d ↦{q} m (sinLoc d)) ∗ (outCLoc d ↦[I]{fullShare} gc) ∗ (outSLoc d ↦[I]{fullShare} gs))
    ∗ (posLoc d ↦{q} posOf (m (idxLoc d))))

/-- It is the parts of it: a piece of each share, and the parts of the rows. -/
theorem carry_parts (d : Dev nD) (q : PosShare TreeShare) (gc gs : S16384x128.Idx → F .f32) {o : ℕ} (ho : 0 < o)
    (J : Fin o → Finset S16384x128.Idx)
    (disj : ∀ i ∈ (Finset.univ : Finset (Fin o)), ∀ j ∈ (Finset.univ : Finset (Fin o)), i ≠ j → Disjoint (J i) (J j)) :
    Carry m d q (Finset.univ.biUnion J) gc gs = bigSep Finset.univ fun j : Fin o => Carry m d (pieceOf q o ho j) (J j) gc gs := by
  unfold Carry
  rw [pointsTo_piecesOf (ℓ := cosLoc d) _ _ ho, pointsTo_piecesOf (ℓ := sinLoc d) _ _ ho, pointsTo_piecesOf (ℓ := posLoc d) _ _ ho,
    pointsTo_biUnion (ℓ := outCLoc d) _ J disj, pointsTo_biUnion (ℓ := outSLoc d) _ J disj]
  simp only [bigSep_sep']

/-- SparseCore `c`'s share, and its task `i`'s. -/
abbrev coreShare (c : Fin 2) : PosShare TreeShare := pieceOf fullShare 2 (by norm_num) c
abbrev taskShare (c : Fin 2) (i : Fin 16) : PosShare TreeShare := pieceOf (coreShare c) 16 (by norm_num) i

abbrev CoreC (d : Dev nD) (c : Fin 2) (gc gs : S16384x128.Idx → F .f32) : sProp 𝕄 := Carry m d (coreShare c) (coreRows c.val) gc gs
abbrev TaskC (d : Dev nD) (c : Fin 2) (i : Fin 16) (gc gs : S16384x128.Idx → F .f32) : sProp 𝕄 :=
  Carry m d (taskShare c i) (taskRows (worker c.val i.val)) gc gs

theorem core_tasks (d : Dev nD) (c : Fin 2) (gc gs : S16384x128.Idx → F .f32) :
    CoreC m d c gc gs = bigSep Finset.univ fun i : Fin 16 => TaskC m d c i gc gs := by
  unfold CoreC
  rw [← taskRows_cover c]
  exact carry_parts m d _ gc gs _ _ (taskRows_disjoint c.val)

theorem whole_cores (d : Dev nD) (gc gs : S16384x128.Idx → F .f32) :
    Carry m d fullShare Finset.univ gc gs = bigSep Finset.univ fun c : Fin 2 => CoreC m d c gc gs := by
  rw [← coreRows_cover]
  exact carry_parts m d _ gc gs _ _ coreRows_disjoint

/-- The outputs at the lookup. -/
abbrev lookC (d : Dev nD) : S16384x128.Idx → F .f32 := lookup (m (cosLoc d)) (posOf (m (idxLoc d)))
abbrev lookS (d : Dev nD) : S16384x128.Idx → F .f32 := lookup (m (sinLoc d)) (posOf (m (idxLoc d)))

theorem nCore_zero : (K (F := F)).nCore 0 = 2 := rfl
theorem nSub_zero : (K (F := F)).nSub 0 = 16 := rfl

/-- The call's payloads: each SparseCore and each task takes its part with the outputs as they were and brings it back with them at the lookup. -/
def P : (K (F := F)).Pay (nD := nD) (Val := Elt F) (Name := ℕ) (U := UU) where
  st := fun q d c => match q with | 0 => CoreC m d (Fin.cast nCore_zero c) (m (outCLoc d)) (m (outSLoc d))
  dn := fun q d c => match q with | 0 => CoreC m d (Fin.cast nCore_zero c) (lookC m d) (lookS m d)
  go := fun q d c i => match q with | 0 => TaskC m d (Fin.cast nCore_zero c) (Fin.cast nSub_zero i) (m (outCLoc d)) (m (outSLoc d))
  td := fun q d c i => match q with | 0 => TaskC m d (Fin.cast nCore_zero c) (Fin.cast nSub_zero i) (lookC m d) (lookS m d)
  x := fun _ _ => iprop(emp)

instance carry_storable (d : Dev nD) (q : PosShare TreeShare) (I : Finset S16384x128.Idx) (gc gs : S16384x128.Idx → F .f32) :
    BI.Storable (upEmb : UEmb _ 𝕄) (Carry m d q I gc gs) := inferInstance

instance P_storable : (P (F := F) m).IsStorable where
  st q d c := match q with | 0 => carry_storable m d _ _ _ _
  dn q d c := match q with | 0 => carry_storable m d _ _ _ _
  go q d c i := match q with | 0 => carry_storable m d _ _ _ _
  td q d c i := match q with | 0 => carry_storable m d _ _ _ _

theorem vecSplit : (K (F := F)).VecSplit' (P m) 0 := by
  intro d c
  show CoreC m d (Fin.cast nCore_zero c) (m (outCLoc d)) (m (outSLoc d)) ⊢ |={Set.univ}=> iprop(
      (bigSep Finset.univ fun i : Fin 16 => TaskC m d (Fin.cast nCore_zero c) i (m (outCLoc d)) (m (outSLoc d)))
      ∗ ((bigSep Finset.univ fun i : Fin 16 => TaskC m d (Fin.cast nCore_zero c) i (lookC m d) (lookS m d))
          -∗ CoreC m d (Fin.cast nCore_zero c) (lookC m d) (lookS m d)))
  rw [core_tasks m d _ (m (outCLoc d)) (m (outSLoc d)), core_tasks m d _ (lookC m d) (lookS m d)]
  iintro H
  imodintro
  isplitl [H]; · iexact H
  iintro H; iexact H

/-! ## The task's obligation -/

variable [FloatOps F]

/-- The task at grid coordinates `(c, s)`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          cosM (Memref.isWhole_whole _) sinM (Memref.isWhole_whole _) posM (Memref.isWhole_whole _) outC (Memref.isWhole_whole _)
          outS (Memref.isWhole_whole _) listM (Memref.isWhole_whole _) bufC (Memref.isWhole_whole _) bufS (Memref.isWhole_whole _)
          cc0_scratch3 cc0_scratch4 cc0_scoped0 cc0_scoped1 cc0_scoped2 cc0_scoped3 cc0_scoped4 cc0_scoped5 cc0_scoped6 cc0_scoped7 cc0_scoped8)
          ⟨⟩ c s := rfl

/-- Every position id names a row of the tables. -/
def IdsOK : Prop := ∀ d : Dev nD, InTable (s := S4x4096) (m (idxLoc d))

omit [FloatOps F] in
theorem posOf_inTable {i : S4x4096.Idx → BitVec 32} (h : InTable i) : InTable (posOf i) := fun _ => h _

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; iframe HO
  ipureintro; exact fun p hp => (hW' p hp).imp_right Or.inl

/-- The body as the call states it: the task's part of the operands in, the same with the outputs at the lookup out. -/
theorem tile_carry (hids : IdsOK m) (d : Dev nD) (L : grid0.Coords) (c : Fin 2) (i : Fin 16) (hc : (L 0).val = c.val) (hi : (L 1).val = i.val)
    (O : CellTallies nD τ sig (HIx 1)) (W : Waits sig (HIx 1)) (hO : ∀ g, O g none = 0) :
    iprop(levAts (K (F := F)).L (K (F := F)).lev ∗ emp ∗ TaskC m d c i (m (outCLoc d)) (m (outSLoc d))
        ∗ scopedBufs (tile d L) ∗ scopedSems0 (tile d L) ∗ owes (tile d L) O W)
      ⊢ wp frame (wpE (defs₀ (F := F)) 𝒱₀ (tile d L) none) Set.univ
          (cc0__gather_kernel L cosM (Memref.isWhole_whole _) sinM (Memref.isWhole_whole _) posM (Memref.isWhole_whole _) outC (Memref.isWhole_whole _)
            outS (Memref.isWhole_whole _) listM (Memref.isWhole_whole _) bufC (Memref.isWhole_whole _) bufS (Memref.isWhole_whole _)
            cc0_scratch3 cc0_scratch4 cc0_scoped0 cc0_scoped1 cc0_scoped2 cc0_scoped3 cc0_scoped4 cc0_scoped5 cc0_scoped6 cc0_scoped7 cc0_scoped8)
          fun _ => iprop(TaskC m d c i (lookC m d) (lookS m d)
            ∗ scopedBufs (tile d L) ∗ scopedSems0 (tile d L) ∗ ∃ W', ⌜∀ x ∈ W', x ∈ W ∨ x.2 = none⌝ ∗ owes (tile d L) O W') := by
  have hw : (wid L).val = worker c.val i.val := by show worker (L 0).val (L 1).val = _; rw [hc, hi]
  have h := tile_body d L (taskShare c i) (m (cosLoc d)) (m (sinLoc d)) (posOf (m (idxLoc d))) (m (outCLoc d)) (m (outSLoc d)) O W facts hO
    (posOf_inTable (hids d))
  unfold Rows at h
  rw [filled_zero, filled_zero, filled_all, filled_all, hw] at h
  exact h

set_option maxRecDepth 16384 in
theorem tileObl (hids : IdsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_carry m hids d (coordsV ⟨_, hci.1⟩ ⟨_, hci.2⟩) (Fin.cast nCore_zero c) (Fin.cast nSub_zero i) rfl rfl O W hO).trans
    (wp_mono frame _ _ fun _ => obl_post)

/-! ## The launch's ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  iframe HH
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing, bigSep_nothing]
  isplitr <;> iempintro

/-! ## The entry function -/

omit [FloatOps F] in
/-- A reshape of one whole array into another. -/
theorem reshape_step {Λ : Labels} {defs : Defs nD τ sig (Elt F) Λ} {𝒱' : Variants} {bd : Option 𝒱'.V} (V₀ : Valuation τ sig (Elt F)) (d : Dev nD)
    (x y : Ref sig .tc) (hxy : x ≠ y) (he : x.ty.elt = y.ty.elt) (hn : x.ty.shape.ShapeCasts y.ty.shape) (hx hy) (fx : Buf (Elt F) ((SparseCore.T d).loc x)) (fy : Buf (Elt F) ((SparseCore.T d).loc y)) {Q : PUnit → sProp 𝕄} :
    iprop(boundary (SparseCore.T d) ∗ ((SparseCore.T d).loc x ↦{fullShare} fx) ∗ ((SparseCore.T d).loc y ↦{fullShare} fy))
      ⊢ iprop((iprop(boundary (SparseCore.T d) ∗ ((SparseCore.T d).loc x ↦{fullShare} fx)
            ∗ ((SparseCore.T d).loc y ↦{fullShare} (fun i => he ▸ shapeCast y.ty.shape fx hn i : y.ty.Contents (Elt F)))) -∗ Q ⟨⟩)
        -∗ wp frame (wpE defs 𝒱' (SparseCore.T d) bd) Set.univ (hlo rfl (StableHlo.reshape x y he hn hx hy) (fun _ => .ret ⟨⟩)) Q) := by
  have hne : (Proc.devRef (τ := τ) .tc x) ≠ Proc.devRef .tc y := fun e => hxy (Proc.devRef_injective _ e)
  have hH : ∀ V : Valuation τ sig (Elt F), (held (SparseCore.T d) {Proc.devRef .tc x, Proc.devRef .tc y} V : sProp 𝕄)
      = iprop(((SparseCore.T d).loc x ↦{fullShare} V (Proc.devRef .tc x)) ∗ ((SparseCore.T d).loc y ↦{fullShare} V (Proc.devRef .tc y))) := fun V => by
    unfold StableHlo.held
    rw [SparseCore.bigSep_insert' (by simpa using hne), bigSep_singleton]
  let V : Valuation τ sig (Elt F) := Function.update (Function.update V₀ (Proc.devRef .tc x) fx) (Proc.devRef .tc y) fy
  have hVx : V (Proc.devRef .tc x) = fx := (Function.update_of_ne hne _ _).trans (Function.update_self _ _ _)
  have hVy : V (Proc.devRef .tc y) = fy := Function.update_self _ _ _
  iintro ⟨Hb, Hx, Hy⟩ Hk
  iapply (wp_hlo_within 𝒱' (SparseCore.T d) bd Set.univ (op := StableHlo.reshape x y he hn hx hy)
    (S := {Proc.devRef .tc x, Proc.devRef .tc y}) (StableHlo.reshape_bufs x y he hn hx hy).subset (V := V)) $$ [Hb Hx Hy]
  · rw [hH, hVx, hVy]; iframe Hb Hx Hy
  rw [hH, StableHlo.reshape_result_ne x y he hn hx hy V hxy, StableHlo.reshape_result, hVx]
  iintro ⟨Hb, Hx, Hy⟩
  rw [wp_ret]; imodintro
  iapply Hk
  iframe Hb Hx Hy

omit [FloatOps F] in
theorem unscopedBufs_eq (d : Dev nD) (W : (b : Ref sig .tc) → Buf (Elt F) ((d.tc : Thread nD τ).loc b)) :
    (unscopedBufs d W : sProp 𝕄) = iprop((cosLoc d ↦{fullShare} W main_arg0) ∗ (sinLoc d ↦{fullShare} W main_arg1) ∗ (idxLoc d ↦{fullShare} W main_arg2)
      ∗ (posLoc d ↦{fullShare} W main_v0) ∗ (outCLoc d ↦{fullShare} W main_v1_0) ∗ (outSLoc d ↦{fullShare} W main_v1_1)
      ∗ (resCLoc d ↦{fullShare} W main_v2) ∗ resSLoc d ↦{fullShare} W main_v3) := by
  unfold unscopedBufs
  rw [show (Finset.univ.filter fun b : Ref sig .tc => ¬ b.isScoped)
      = {main_arg0, main_arg1, main_arg2, main_v0, main_v1_0, main_v1_1, main_v2, main_v3} by decide]
  iterate 7 rw [SparseCore.bigSep_insert' (by decide)]
  rw [bigSep_singleton]

theorem st_eq (d : Dev nD) : (bigSep Finset.univ fun c : Fin ((K (F := F)).nCore 0) => (P m).st 0 d c)
    = Carry m d fullShare Finset.univ (m (outCLoc d)) (m (outSLoc d)) := (whole_cores m d _ _).symm
theorem dn_eq (d : Dev nD) : (bigSep Finset.univ fun c : Fin ((K (F := F)).nCore 0) => (P m).dn 0 d c)
    = Carry m d fullShare Finset.univ (lookC m d) (lookS m d) := (whole_cores m d _ _).symm

/-- What the entry function ends with: the arguments as they were, the results at the lookup. -/
abbrev FIN (d : Dev nD) : sProp 𝕄 :=
  iprop((cosLoc d ↦{fullShare} m (cosLoc d)) ∗ (sinLoc d ↦{fullShare} m (sinLoc d)) ∗ (idxLoc d ↦{fullShare} m (idxLoc d))
    ∗ (resCLoc d ↦{fullShare} resultOf (m (cosLoc d)) (m (idxLoc d))) ∗ (resSLoc d ↦{fullShare} resultOf (m (sinLoc d)) (m (idxLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hcos, Hsin, Hidx, Hpos, Hoc, Hos, Hrc, Hrs⟩, Hts, -⟩, -⟩
  iapply (reshape_step (fun b => m (d, b)) d main_arg2 main_v0 (by decide) rfl _ _ _ _ _) $$ [Hb Hidx Hpos]
  · iframe Hb Hidx Hpos
  iintro ⟨Hb, Hidx, Hpos⟩
  iapply ((K (F := F)).wp_run (D (F := F)) 𝒱 (EH := EH) (P := P m) κ d 0) $$ [Hst Hb Hcos Hsin Hidx Hpos Hoc Hos Hrc Hrs Hts]
  isplitr; · iexact Hctx
  isplitl [Hst]; · iexact Hst
  isplitl [Hcos Hsin Hpos Hoc Hos]
  · rw [st_eq]
    isplitr [Hpos]
    · iframe Hcos Hsin Hoc Hos
    iexact Hpos
  rw [dn_eq]
  iintro ⟨Hst, ⟨Hcos, Hsin, Hoc, Hos⟩, -⟩
  iapply (reshape_step (fun b => m (d, b)) d main_v1_0 main_v2 (by decide) rfl _ _ _ _ _) $$ [Hb Hoc Hrc]
  · iframe Hb Hoc Hrc
  iintro ⟨Hb, -, Hrc⟩
  iapply (reshape_step (fun b => m (d, b)) d main_v1_1 main_v3 (by decide) rfl _ _ _ _ _) $$ [Hb Hos Hrs]
  · iframe Hb Hos Hrs
  iintro ⟨Hb, -, Hrs⟩
  imodintro
  isplitl [Hst]; · iexact Hst
  isplitr [Hb Hts]
  · iframe Hcos Hsin Hidx
    isplitl [Hrc]; · iexact Hrc
    iexact Hrs
  iframe Hb Hts

/-! ## The run -/

/-- What is read off device `d`'s memory at the end. -/
def Ended (d : Dev nD) (M : (ℓ : Loc nD τ sig) → Buf (Elt F) ℓ) : Prop :=
  M (cosLoc d) = m (cosLoc d) ∧ M (sinLoc d) = m (sinLoc d) ∧ M (idxLoc d) = m (idxLoc d)
    ∧ M (resCLoc d) = resultOf (m (cosLoc d)) (m (idxLoc d)) ∧ M (resSLoc d) = resultOf (m (sinLoc d)) (m (idxLoc d))

omit [FloatOps F] in
/-- A whole array held beside the machine's state is what its memory holds there; both are kept. -/
theorem agree_whole (s : Phys nD τ sig (Elt F)) (ℓ : Loc nD τ sig) (f : Buf (Elt F) ℓ) :
    iprop(SI s ∗ (ℓ ↦{fullShare} f)) ⊢ (iprop(⌜s.mem.mem ℓ = f⌝ ∗ SI s) : sProp 𝕄) := by
  iintro H
  ihave H := (persistent_entails_right (SI_pointsTo_agree (st := s) (ℓ := ℓ) (I := Finset.univ) (q := fullShare) (f := f))) $$ H
  icases H with ⟨%h, HSI, -⟩
  iframe HSI
  ipureintro; exact funext fun i => h i (Finset.mem_univ i)

set_option maxRecDepth 16384 in
theorem hfin (d : Dev nD) (s : Phys nD τ sig (Elt F)) : iprop(FIN m d ∗ SI s) ⊢ (⌜Ended m d s.mem.mem⌝ : sProp 𝕄) := by
  iintro ⟨⟨H1, H2, H3, H4, H5⟩, HSI⟩
  ihave ⟨%h1, HSI⟩ := (agree_whole s (cosLoc d) _) $$ [HSI H1]
  · iframe HSI H1
  ihave ⟨%h2, HSI⟩ := (agree_whole s (sinLoc d) _) $$ [HSI H2]
  · iframe HSI H2
  ihave ⟨%h3, HSI⟩ := (agree_whole s (idxLoc d) _) $$ [HSI H3]
  · iframe HSI H3
  ihave ⟨%h4, HSI⟩ := (agree_whole s (resCLoc d) _) $$ [HSI H4]
  · iframe HSI H4
  ihave ⟨%h5, HSI⟩ := (agree_whole s (resSLoc d) _) $$ [HSI H5]
  · iframe HSI H5
  ipureintro; exact ⟨h1, h2, h3, h4, h5⟩

/-- Every run ends with the arguments as they were, the results at the lookup and every semaphore at zero. -/
theorem run_main [∀ e, Nonempty (Elt F e)] (hids : IdsOK m) :
    θ_run (Cert.KernelIdeal.defs (F := F)) (Cert.KernelIdeal.threads (F := F)) ⟨m, fun _ => 0, ρ⟩
      (fun r => (∀ d : Dev nD, Ended m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hids)
    (fun q _ => match q with | 0 => SparseCore.Cfg.VecSplit.of_plain (vecSplit m))
    m ρ main (fun _ => iprop(emp)) (FIN m) (u₀ (F := F)) (sep_elim_left.trans (hu₀ m)) (hmain m ρ) (fun d s => Ended m d s.mem.mem) (hfin m) _
    (fun _ h hz => ⟨h, hz⟩)

end Cert.Proof.Task

end
-- ==== Proof.Equation.lean ====
/-
  The two sides of the equation. The precondition says that every position id names a row of the tables; where it holds, the
  value the reference computes (its wrap of negative ids, its range mask and its clamped gather) is the lookup the kernel leaves.
-/
module

public import proofs.«01_k».proof.Proof.Launch
public import proofs.«01_k».proof.Proof.Gen.ReferenceIdeal
public import proofs.«01_k».proof.Proof.Gen.Pre_positions_in_table
public import Idealize.ShloMosaic.Lib.ReduceAll

@[expose] public section

noncomputable section

namespace Cert.Proof.Equation

open Cert.ReferenceIdeal Cert.ReferenceIdeal.Gen Cert.Proof.Lookup
open Idealize.ShloMosaic Idealize.ShloMosaic.ValueIdx

variable {F : FTy → Type}

/-! ## The precondition -/

/-- A word that is at least 0 and below 8192 as a signed number is below 8192 as an unsigned one. -/
theorem word_in_range {v : BitVec 32} (h0 : 0 ≤ v.toInt) (h1 : v.toInt < 8192) : v.toNat < 8192 := by
  rw [BitVec.toInt_eq_toNat_cond] at h0 h1
  split at h0 <;> omega

/-- A word below 8192 reads the same signed and unsigned. -/
theorem toInt_of_in_range {v : BitVec 32} (h : v.toNat < 8192) : v.toInt = (v.toNat : Int) := by
  rw [BitVec.toInt_eq_toNat_cond, if_pos (by omega)]

/-- The precondition's value on a machine's arguments, read back: every position id is in range. -/
theorem inTable_of_pre [FloatOps F] {t u : FVec F S8192x128 .f32} {i : IVec S4x4096 32}
    (h : Cert.Pre_positions_in_table.fn (F := F) t u i = fun _ => 1#1) : InTable (s := S4x4096) i := fun x => by
  have : Subsingleton Cert.Pre_positions_in_table.S_.Idx := ⟨fun a b => funext fun k => k.elim0⟩
  have hx := Host.reduce_andi_all _ _ _ _ _ (congrFun h fun k => k.elim0) x
  obtain ⟨lo, hi⟩ := IntOp.andi_eq_one.mp hx
  exact word_in_range (IntOp.cmpi_sge.mp lo) (IntOp.cmpi_slt.mp hi)

/-! ## The reference's value -/

/-- The ids after the reference's wrap: a negative id counts from the end of the table. -/
def wrapped (i : IVec S4x4096 32) : IVec S4x4096 32 :=
  select (cmpi .slt i (broadcastInDim S4x4096 ![] bcast_S_S4x4096 (constantI S_ 32 0#32)))
    (addi i (broadcastInDim S4x4096 ![] bcast_S_S4x4096 (constantI S_ 32 8192#32))) i

/-- The start indices of the reference's gather. -/
def starts (i : IVec S4x4096 32) : IVec S4x4096x1 32 :=
  broadcastInDim S4x4096x1 ![0, 1] bcast_S4x4096_S4x4096x1_0_1 (wrapped i)

/-- The reference's mask: which ids, wrapped, lie in the table. -/
def inRangeMask (i : IVec S4x4096 32) : IVec S4x4096 1 :=
  Host.reduce IntOp.andi
    (andi (cmpi .sge (starts i) (broadcastInDim S4x4096x1 ![] bcast_S_S4x4096x1 (constantI S_ 32 0#32)))
      (cmpi .sle (starts i) (broadcastInDim S4x4096x1 ![0, 1, 2] bcast_S1x1x1_S4x4096x1_0_1_2
        (broadcastInDim S1x1x1 ![2] bcast_S1_S1x1x1_2 (constantI S1 32 8191#32)))))
    (constantI S_ 1 1#1) reducesTo_S4x4096x1_S4x4096_d2 h_S_

/-- What the reference computes from a table and the ids. -/
def taken [FloatOps F] (t : FVec F S8192x128 .f32) (i : IVec S4x4096 32) : FVec F S4x4096x128 .f32 :=
  select (broadcastInDim S4x4096x128 ![0, 1] bcast_S4x4096_S4x4096x128_0_1 (inRangeMask i))
    (Host.gather gather_S8192x128_S4x4096x1_S4x4096x128_2_0_n_n_0_2_1128 t (starts i))
    (broadcastInDim S4x4096x128 ![] bcast_S_S4x4096x128 (constant S_ .f32 0x7FC00000#32))

/-- An id in range is not wrapped. -/
theorem wrapped_eq {i : IVec S4x4096 32} (h : InTable (s := S4x4096) i) : wrapped i = i := funext fun x => by
  have hneg : ¬ IntOp.cmpi .slt (i x) 0#32 = 1#1 := fun e => by
    have := IntOp.cmpi_slt.mp e
    rw [toInt_of_in_range (h x)] at this
    simp at this
    omega
  show Scalar.select (IntOp.cmpi .slt (i x) 0#32) _ (i x) = i x
  rw [eq_zero_of_ne_one hneg]
  rfl

/-- The start index at `(b, s, 0)` is the id at `(b, s)`. -/
theorem starts_apply {i : IVec S4x4096 32} (h : InTable (s := S4x4096) i) (y : S4x4096x1.Idx) :
    starts i y = i (ix2 (y 0 : Fin 4) (y 1 : Fin 4096)) := by
  unfold starts
  rw [wrapped_eq h]
  show i _ = i _
  congr 1
  funext a
  match a with
  | ⟨0, _⟩ => rfl
  | ⟨1, _⟩ => rfl

/-- Every id in range passes the mask. -/
theorem inRangeMask_eq {i : IVec S4x4096 32} (h : InTable (s := S4x4096) i) (x : S4x4096.Idx) : inRangeMask i x = 1#1 :=
  Host.reduce_andi_one _ _ _ _ _ rfl fun y => by
    have hy := starts_apply h y
    have hlt := h (ix2 (y 0 : Fin 4) (y 1 : Fin 4096))
    show IntOp.andi (IntOp.cmpi .sge (starts i y) 0#32) (IntOp.cmpi .sle (starts i y) 8191#32) = 1#1
    rw [hy]
    refine IntOp.andi_eq_one.mpr ⟨IntOp.cmpi_sge.mpr ?_, IntOp.cmpi_sle.mpr ?_⟩ <;> rw [toInt_of_in_range hlt]
    · exact Int.natCast_nonneg _
    · rw [show (8191#32 : BitVec 32).toInt = 8191 from by decide]
      omega

abbrev rowGather : GatherDims S8192x128 S4x4096x1 S4x4096x128 := gather_S8192x128_S4x4096x1_S4x4096x128_2_0_n_n_0_2_1128

/-- The reference's gather reads, for the result element `(b, s, j)`, column `j` of the row the start index names. -/
theorem gather_row {α : Type} (t : S8192x128.Idx → α) (k : IVec S4x4096x1 32) (hk : ∀ y, (k y).toNat < 8192) (x : S4x4096x128.Idx) :
    Host.gather rowGather t k x
      = t (ix2 (tableRow (k (ix3 (x 0 : Fin 4) (x 1 : Fin 4096) (0 : Fin 1)))) (x 2 : Fin 128)) := by
  set y : S4x4096x1.Idx := ix3 (x 0 : Fin 4) (x 1 : Fin 4096) (0 : Fin 1) with hy
  have row : (rowGather.operandIdx x k 0).val = (tableRow (k y)).val := by
    show rowGather.start x k 0 + rowGather.batchCoord x 0 + rowGather.offCoord x 0 = (k y).toNat % 8192
    have hm : (0 : Fin 2) ∈ rowGather.startIndexMap := List.mem_singleton.mpr rfl
    have hsi : rowGather.siIdx x ⟨List.idxOf (0 : Fin 2) rowGather.startIndexMap, List.idxOf_lt_length_iff.2 hm⟩ = y := by
      funext b
      match b with
      | ⟨0, _⟩ => rfl
      | ⟨1, _⟩ => rfl
      | ⟨2, _⟩ => rfl
    have hs : rowGather.start x k 0 = min (k y).toInt.toNat 8191 := by
      unfold GatherDims.start
      rw [dif_pos hm, hsi]
      rfl
    have hb : rowGather.batchCoord x 0 = 0 := rfl
    have ho : rowGather.offCoord x 0 = 0 := rfl
    have := hk y
    rw [hs, hb, ho, toInt_of_in_range this, Int.toNat_natCast]
    omega
  have col : (rowGather.operandIdx x k 1).val = (x 2).val := by
    show rowGather.start x k 1 + rowGather.batchCoord x 1 + rowGather.offCoord x 1 = (x 2).val
    have hs : rowGather.start x k 1 = 0 := rfl
    have hb : rowGather.batchCoord x 1 = 0 := rfl
    have ho : rowGather.offCoord x 1 = (x 2).val := rfl
    omega
  show t (rowGather.operandIdx x k) = _
  congr 1
  funext a
  match a with
  | ⟨0, _⟩ => exact Fin.ext row
  | ⟨1, _⟩ => exact Fin.ext col

/-! ## The kernel's value, by batch and place -/

/-- Element `(b, s, j)` of a result of the kernel: column `j` of the table's row at the id `(b, s)`. -/
theorem resultOf_apply (t : S8192x128.Idx → F .f32) (i : S4x4096.Idx → BitVec 32) (x : S4x4096x128.Idx) :
    Task.resultOf t i x = t (ix2 (tableRow (i (ix2 (x 0 : Fin 4) (x 1 : Fin 4096)))) (x 2 : Fin 128)) := by
  obtain ⟨b, s, j, rfl⟩ : ∃ (b : Fin 4) (s : Fin 4096) (j : Fin 128), x = ix3 b s j := ⟨x 0, x 1, x 2, by
    funext a
    match a with
    | ⟨0, _⟩ => rfl
    | ⟨1, _⟩ => rfl
    | ⟨2, _⟩ => rfl⟩
  have hn : b.val * 4096 + s.val < 16384 := by omega
  have flat : Shape.reshapeEquiv Cert.KernelIdeal.Gen.shapeCasts_S16384x128_S4x4096x128 (ix3 b s j)
      = ix2 (⟨b.val * 4096 + s.val, hn⟩ : Fin 16384) j :=
    Shape.reshapeEquiv_eq_of_rowMajor _ (by rw [Shape.rowMajor_val_two, Shape.rowMajor_val_three]; rfl)
  have back : Shape.reshapeEquiv Cert.KernelIdeal.Gen.shapeCasts_S4x4096_S32x4x128 (slot ⟨b.val * 4096 + s.val, hn⟩)
      = ix2 b s :=
    Shape.reshapeEquiv_eq_of_rowMajor _ (by
      rw [Shape.rowMajor_val_two, Shape.rowMajor_val_three]
      show b.val * 4096 + s.val
        = ((b.val * 4096 + s.val) / 512 * 4 + (b.val * 4096 + s.val) % 512 / 128) * 128 + (b.val * 4096 + s.val) % 128
      omega)
  show lookup t (Task.posOf i) (Shape.reshapeEquiv _ (ix3 b s j)) = _
  rw [flat]
  show t (ix2 (tableRow (i (Shape.reshapeEquiv _ (slot ⟨b.val * 4096 + s.val, hn⟩)))) j) = _
  rw [back]

/-- THE EQUATION: with every id in range the reference's value is the kernel's. -/
theorem taken_eq [FloatOps F] (t : FVec F S8192x128 .f32) {i : IVec S4x4096 32} (h : InTable (s := S4x4096) i) :
    taken t i = Task.resultOf t i := funext fun x => by
  rw [resultOf_apply]
  have hm : broadcastInDim S4x4096x128 ![0, 1] bcast_S4x4096_S4x4096x128_0_1 (inRangeMask i) x = 1#1 := inRangeMask_eq h _
  rw [taken, select_apply, hm, select_one]
  refine (gather_row t (starts i) (fun y => by rw [starts_apply h]; exact h _) x).trans ?_
  rw [starts_apply h]

end Cert.Proof.Equation

end
-- ==== Proof.lean ====
/-
  The certificate's claim: the frames of the kernel (as printed and idealized) and of the reference, and the equality of the
  kernel's two results with the reference's. The kernel's run is Proof/Launch.lean, the equation of values Proof/Equation.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_positions_in_table
public import proofs.«01_k».proof.Proof.Equation
public import Idealize.ShloMosaic.Adequacy
public import Idealize.ShloMosaic.Init

@[expose] public section

noncomputable section

namespace Cert.Proof

open Idealize.ShloMosaic Idealize.SL.Sem Cert.Proof.Equation

/-! ## The frames -/

/-- Both kernel programs: where the precondition holds the ids are in range, and the run leaves every argument unchanged and
    every counter at zero. -/
theorem frame_kernel : Cert.quiescent_Kernel := fun m ρ hpre =>
  (θ_run Cert.Kernel.defs _ _).mono (fun _ h => ⟨fun c => ⟨(h.1 c).1, (h.1 c).2.1, (h.1 c).2.2.1⟩, h.2⟩)
    (Task.run_main (F := Bits) m ρ fun d => inTable_of_pre (hpre d))

theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (Task.run_main (F := Ideal) m ρ fun d => inTable_of_pre (hpre d))

/-- The reference declares no semaphore, so its counters are zero; its run leaves the arguments unchanged. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-! ## The value claim -/

/-- From equal arguments with every id in range, kernel and reference leave the same two results: the lookup of the ids in
    either table. -/
theorem equal_results : Cert.algebraic_KernelIdeal_ReferenceIdeal := fun m ρ m' ρ' hpre hargs =>
  ⟨fun c => Task.resultOf (F := Ideal) (m (Task.cosLoc c)) (m (Task.idxLoc c)),
    fun c => Task.resultOf (F := Ideal) (m (Task.sinLoc c)) (m (Task.idxLoc c)),
    (θ_run Cert.KernelIdeal.defs _ _).mono
      (fun _ h c => ⟨(h.1 c).2.2.2.1, (h.1 c).2.2.2.2, (h.1 c).1, (h.1 c).2.1, (h.1 c).2.2.1⟩)
      (Task.run_main (F := Ideal) m ρ fun d => inTable_of_pre (hpre d)),
    (θ_run Cert.ReferenceIdeal.defs _ _).mono
      (fun _ h c => by
        obtain ⟨e0, e1, e2⟩ := hargs c
        have hids := inTable_of_pre (hpre c)
        refine ⟨(h c).1.trans (Eq.trans ?_ (taken_eq (F := Ideal) (m (Task.cosLoc c)) hids)),
          (h c).2.1.trans (Eq.trans ?_ (taken_eq (F := Ideal) (m (Task.sinLoc c)) hids)), (h c).2.2⟩
        · rw [e0, e2]; rfl
        · rw [e1, e2]; rfl)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, Cert.Pre_positions_in_table.Gen.facts,
    frame_kernel, frame_kernelIdeal, frame_reference, fun m ρ _ => frame_reference m ρ trivial, trivial, equal_results⟩

end Cert.Proof

end
